-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x1024 : Shape := ⟨2, ![20000, 1024]⟩
abbrev S1024x81 : Shape := ⟨2, ![1024, 81]⟩
abbrev S81 : Shape := ⟨1, ![81]⟩
abbrev S1024x320 : Shape := ⟨2, ![1024, 320]⟩
abbrev S320 : Shape := ⟨1, ![320]⟩
abbrev S81x1024 : Shape := ⟨2, ![81, 1024]⟩
abbrev S320x1024 : Shape := ⟨2, ![320, 1024]⟩
abbrev S81x1 : Shape := ⟨2, ![81, 1]⟩
abbrev S320x1 : Shape := ⟨2, ![320, 1]⟩
abbrev S81x20000 : Shape := ⟨2, ![81, 20000]⟩
abbrev S320x20000 : Shape := ⟨2, ![320, 20000]⟩
abbrev S2048x1024 : Shape := ⟨2, ![2048, 1024]⟩
abbrev S81x2048 : Shape := ⟨2, ![81, 2048]⟩
abbrev S320x2048 : Shape := ⟨2, ![320, 2048]⟩
abbrev S20000x81 : Shape := ⟨2, ![20000, 81]⟩
abbrev S20000x320 : Shape := ⟨2, ![20000, 320]⟩

abbrev nBuf : Space → Nat
  | .hbm => 13
  | .vmem => 10
  | .smem => 0
  | _ => 0

abbrev bufTy : (tb : Table) → Fin (tcTables nBuf tb) → BufTy
  | .hbm, ⟨0, _⟩ => ⟨S20000x1024, .f32⟩
  | .hbm, ⟨1, _⟩ => ⟨S1024x81, .f32⟩
  | .hbm, ⟨2, _⟩ => ⟨S81, .f32⟩
  | .hbm, ⟨3, _⟩ => ⟨S1024x320, .f32⟩
  | .hbm, ⟨4, _⟩ => ⟨S320, .f32⟩
  | .hbm, ⟨5, _⟩ => ⟨S81x1024, .f32⟩
  | .hbm, ⟨6, _⟩ => ⟨S320x1024, .f32⟩
  | .hbm, ⟨7, _⟩ => ⟨S81x1, .f32⟩
  | .hbm, ⟨8, _⟩ => ⟨S320x1, .f32⟩
  | .hbm, ⟨9, _⟩ => ⟨S81x20000, .f32⟩
  | .hbm, ⟨10, _⟩ => ⟨S320x20000, .f32⟩
  | .hbm, ⟨11, _⟩ => ⟨S20000x81, .f32⟩
  | .hbm, ⟨12, _⟩ => ⟨S20000x320, .f32⟩
  | .local _ .vmem, ⟨0, _⟩ => ⟨S2048x1024, .f32⟩
  | .local _ .vmem, ⟨1, _⟩ => ⟨S2048x1024, .f32⟩
  | .local _ .vmem, ⟨2, _⟩ => ⟨S81x1024, .f32⟩
  | .local _ .vmem, ⟨3, _⟩ => ⟨S81x1, .f32⟩
  | .local _ .vmem, ⟨4, _⟩ => ⟨S320x1024, .f32⟩
  | .local _ .vmem, ⟨5, _⟩ => ⟨S320x1, .f32⟩
  | .local _ .vmem, ⟨6, _⟩ => ⟨S81x2048, .f32⟩
  | .local _ .vmem, ⟨7, _⟩ => ⟨S81x2048, .f32⟩
  | .local _ .vmem, ⟨8, _⟩ => ⟨S320x2048, .f32⟩
  | .local _ .vmem, ⟨9, _⟩ => ⟨S320x2048, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S81x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S81x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S81x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S20000x1024 : Shape := ⟨2, ![20000, 1024]⟩
abbrev S1024x81 : Shape := ⟨2, ![1024, 81]⟩
abbrev S81 : Shape := ⟨1, ![81]⟩
abbrev S1024x320 : Shape := ⟨2, ![1024, 320]⟩
abbrev S320 : Shape := ⟨1, ![320]⟩
abbrev S20000x81 : Shape := ⟨2, ![20000, 81]⟩
abbrev S1x81 : Shape := ⟨2, ![1, 81]⟩
abbrev S20000x320 : Shape := ⟨2, ![20000, 320]⟩
abbrev S1x320 : Shape := ⟨2, ![1, 320]⟩

abbrev nBuf : Space → Nat
  | .hbm => 13
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S1024x81, .f32⟩
  | .hbm, ⟨2, _⟩ => ⟨S81, .f32⟩
  | .hbm, ⟨3, _⟩ => ⟨S1024x320, .f32⟩
  | .hbm, ⟨4, _⟩ => ⟨S320, .f32⟩
  | .hbm, ⟨5, _⟩ => ⟨S20000x81, .f32⟩
  | .hbm, ⟨6, _⟩ => ⟨S1x81, .f32⟩
  | .hbm, ⟨7, _⟩ => ⟨S20000x81, .f32⟩
  | .hbm, ⟨8, _⟩ => ⟨S20000x81, .f32⟩
  | .hbm, ⟨9, _⟩ => ⟨S20000x320, .f32⟩
  | .hbm, ⟨10, _⟩ => ⟨S1x320, .f32⟩
  | .hbm, ⟨11, _⟩ => ⟨S20000x320, .f32⟩
  | .hbm, ⟨12, _⟩ => ⟨S20000x320, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.KernelFrame.lean ====
/-
  The frame of the kernel at machine words: every execution of the program terminates, its five arguments end as they
  began and every semaphore counter ends at zero.

  Nothing here speaks of what the kernel computes, so the proof forgets the contents of every staging buffer: the body is
  handed seven buffers holding anything and hands back seven buffers holding anything (`body_runs`). That suits the
  clipped blocks too. The last block of `x` reaches 480 rows past the array, so the rows of its staging buffer past the
  array's end hold words that nobody names, and the body multiplies them like the others.
-/
module

public import proofs.«01_k».proof.Defs
public import proofs.«01_k».proof.Proof.Gen.Kernel.Frame
public import proofs.«01_k».proof.Proof.Gen.Kernel.Skeleton

@[expose] public section

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Bits) ℕ (UR sig nD τ) ℕ

variable (m : (ℓ : Loc nD τ sig) → Buf (Elt Bits) ℓ) (ρ : Dev nD → PrngReg)

/-- A staging buffer held whole, with contents that are not named. -/
abbrev held (c : Dev nD) {s : Shape} (b : Memref sig .tc .vmem s .f32) : sProp 𝕄 :=
  iprop(∃ X : s.Idx → Elt Bits .f32, owns (c : Thread nD τ) b fullShare X)

/-- The seven staging buffers of one grid point, all held. -/
abbrev heldAll (c : Dev nD) (b1 : Memref sig .tc .vmem S2048x1024 .f32) (b2 : Memref sig .tc .vmem S81x1024 .f32)
    (b3 : Memref sig .tc .vmem S81x1 .f32) (b4 : Memref sig .tc .vmem S320x1024 .f32)
    (b5 : Memref sig .tc .vmem S320x1 .f32) (b6 : Memref sig .tc .vmem S81x2048 .f32)
    (b7 : Memref sig .tc .vmem S320x2048 .f32) : sProp 𝕄 :=
  iprop(held c b1 ∗ held c b2 ∗ held c b3 ∗ held c b4 ∗ held c b5 ∗ held c b6 ∗ held c b7)

/-- The body runs from any contents of its seven buffers and hands the same seven buffers back. -/
theorem body_runs (c : Dev nD) (i : grid0.Coords)
    (b1 : Memref sig .tc .vmem S2048x1024 .f32) (h1 : b1.IsWhole) (b2 : Memref sig .tc .vmem S81x1024 .f32) (h2 : b2.IsWhole)
    (b3 : Memref sig .tc .vmem S81x1 .f32) (h3 : b3.IsWhole) (b4 : Memref sig .tc .vmem S320x1024 .f32) (h4 : b4.IsWhole)
    (b5 : Memref sig .tc .vmem S320x1 .f32) (h5 : b5.IsWhole) (b6 : Memref sig .tc .vmem S81x2048 .f32) (h6 : b6.IsWhole)
    (b7 : Memref sig .tc .vmem S320x2048 .f32) (h7 : b7.IsWhole) (K : PUnit → sProp 𝕄) :
    iprop(heldAll c b1 b2 b3 b4 b5 b6 b7 ∗ (heldAll c b1 b2 b3 b4 b5 b6 b7 -∗ K ⟨⟩))
      ⊢ wp frame (wpE (defs₀ (F := Bits)) Variants.none c none) Set.univ
          (cc0__fused_heads_t i b1 h1 b2 h2 b3 h3 b4 h4 b5 h5 b6 h6 b7 h7) K := by
  simp only [cc0__fused_heads_t_eq_skeleton]; unfold cc0__fused_heads_t_skel
  unfold heldAll held owns
  iintro ⟨⟨⟨%X1, %f1, -, H1⟩, ⟨%X2, %f2, -, H2⟩, ⟨%X3, %f3, -, H3⟩, ⟨%X4, %f4, -, H4⟩, ⟨%X5, %f5, -, H5⟩,
    ⟨%X6, %f6, -, H6⟩, ⟨%X7, %f7, -, H7⟩⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  · iexists _, _; isplitr; swap; · iexact H7
    ipureintro; rfl

/-- Every window is forgotten. -/
abbrev forget : Fin 7 → Bool := fun _ => true

/-- The proof data: each array at its contents when the kernel is called, nothing named of what the body leaves. -/
def dats (_ : Fin 1) (c : Dev nD) : Dat τ (Elt Bits) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The seven staging buffers the pipeline is on at point `t`, all held. -/
abbrev heldAt (c : Dev nD) (t : Fin cfg0.N) : sProp 𝕄 :=
  heldAll c (win0_0.stage (cfg0.slots t 0)) (win0_1.stage (cfg0.slots t 1)) (win0_2.stage (cfg0.slots t 2))
    (win0_3.stage (cfg0.slots t 3)) (win0_4.stage (cfg0.slots t 4)) (win0_5.stage (cfg0.slots t 5))
    (win0_6.stage (cfg0.slots t 6))

/-- The body at point `t`, beside whatever else is held there: the other things come back as they were. -/
theorem body_at (c : Dev nD) (t : Fin cfg0.N) (P Q : sProp 𝕄) :
    iprop(P ∗ Q ∗ heldAt c t)
      ⊢ wp frame (wpE (defs₀ (F := Bits)) Variants.none c none) Set.univ (bodyAt0 t) (fun _ => iprop(P ∗ Q ∗ heldAt c t)) := by
  unfold bodyAt0
  iintro ⟨HP, HQ, HB⟩
  iapply body_runs
  isplitl [HB]; · iexact HB
  iintro HB
  isplitl [HP]; · iexact HP
  isplitl [HQ]; · iexact HQ
  iexact HB

/-- The body that the pipeline calls at point `t` is `bodyAt0 t`. -/
theorem called_eq (t : Fin cfg0.N) :
    defs₀ (F := Bits) .tc cfg0.body (cfg0.bodyArgs t (cfg0.slots t)) = bodyAt0 t := by
  unfold defs₀; rw [Defs.onTc_tc]

/-- The body meets its obligation at every grid point. -/
theorem body_obligation (c : Dev nD) :
    BodyObligationLoose (dats m 0 c) (defs₀ (F := Bits)) Variants.none () Set.univ forget := fun t => by
  rw [bigSep_W0]
  exact triple_restated (body_at c t ((dats m 0 c).Φ t.castSucc) ((dats m 0 c).owesAt () t.castSucc))
    (congrArg _ (called_eq t).symm) .rfl fun _ => .rfl

/-- The two results of the program, which the lines after the kernel write. -/
abbrev written : Finset (Ref sig .tc) := {main_v5, main_v6}

/-- The lines after the kernel write the two results only. -/
theorem tail_writes : ∀ ops ∈ ([hostOps1] : List (List (HloOp τ sig (Elt Bits)))), ∀ op ∈ ops, ∀ b : Ref sig .tc,
    Proc.devRef .tc b ∈ op.writes → b ∈ written := by
  intro ops hops op hop b hb
  rw [List.mem_singleton] at hops
  subst hops
  simp only [hostOps1, List.mem_cons, List.not_mem_nil, or_false] at hop
  rcases hop with rfl | rfl <;>
  · rw [StableHlo.unary_writes, Finset.mem_singleton] at hb
    rw [Proc.devRef_injective .tc hb]
    decide

-- the launch theorem's implicit arguments are found by unifying its conclusion with this one
set_option backward.isDefEq.respectTransparency.types false in
/-- The program terminates from any memory with zero counters, with its arguments unchanged and every counter at zero. -/
theorem frame : Cert.quiescent_Kernel := by
  intro m ρ _
  refine Pipeline.θ_run_frame_around_T_forget cfgs (dats m) (0 : Fin 1) launch0 defs₀ Variants.none forget written m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl) (Q' := _) (hQ' := ?_)
  intro r h
  refine ⟨fun c => ⟨?_, ?_, ?_, ?_, ?_⟩, h.2⟩
  · exact (h.1.arr_in c 0 rfl).trans (V_main_arg0 m c)
  all_goals
    refine ((h.1 c).2 _ (Finset.mem_sdiff.mpr ⟨Pipeline.mem_restRefs_of _ (by decide) (by decide), by decide⟩)).trans ?_
  · exact V_main_arg1 m c
  · exact V_main_arg2 m c
  · exact V_main_arg3 m c
  · exact V_main_arg4 m c

end Cert.Kernel.Frame

end
-- ==== Proof.Dense.lean ====
/-
  The mathematics both programs compute: a dense layer `x · w + b` on 20000 rows of 1024 features, with any number `n` of
  output features. The first result has `n = 81`, the second `n = 320`.
-/
module

public import Idealize.ShloMosaic.Lib.Pointwise

@[expose] public section

noncomputable section

namespace Cert.Dense

open Idealize.ShloMosaic

/-- Entry `(i, j)` of the layer: row `i` of `x` times column `j` of `w`, plus entry `j` of the bias. -/
def layer {n : Nat} (x : FVec Ideal ⟨2, ![20000, 1024]⟩ .f32) (w : FVec Ideal ⟨2, ![1024, n]⟩ .f32)
    (b : FVec Ideal ⟨1, ![n]⟩ .f32) : FVec Ideal ⟨2, ![20000, n]⟩ .f32 :=
  fun i => (∑ k : Fin 1024, x (ix2 (i 0) k) * w (ix2 k (i 1))) + b (ix1 (i 1))

end Cert.Dense

end
-- ==== Proof.BlockValue.lean ====
/-
  What one block of the kernel computes, entry by entry, over the extended reals.

  The body holds a block `x` of 2048 rows, a transposed weight matrix `w` and a column of biases `b`, and stores
  `w xᵀ + b` — a block with one row per output feature and one column per row of `x`. Entry `(p, r)` of it reads
  only row `r` of `x`, row `p` of `w` and entry `p` of `b`.
-/
module

public import proofs.«01_k».proof.Proof.Gen.KernelIdeal.Skeleton
public import Idealize.ShloMosaic.Lib.Pointwise

@[expose] public section

noncomputable section

namespace Cert.KernelIdeal.Block

open Cert.KernelIdeal Cert.KernelIdeal.Gen
open Idealize.ShloMosaic

/-- Entry `(p, r)` of the first head's block: row `p` of the weights against row `r` of `x`, plus bias `p`. -/
theorem pay1_apply (x : FVec Ideal S2048x1024 .f32) (w : FVec Ideal S81x1024 .f32) (b : FVec Ideal S81x1 .f32)
    (j : S81x2048.Idx) :
    k0_pay1 x w b j = (∑ k : Fin 1024, w (ix2 (j 0) k) * x (ix2 (j 1) k)) + b (ix2 (j 0) 0) := by
  pointwise [k0_pay1]

/-- Entry `(p, r)` of the second head's block: row `p` of the weights against row `r` of `x`, plus bias `p`. -/
theorem pay2_apply (x : FVec Ideal S2048x1024 .f32) (w : FVec Ideal S320x1024 .f32) (b : FVec Ideal S320x1 .f32)
    (j : S320x2048.Idx) :
    k0_pay2 x w b j = (∑ k : Fin 1024, w (ix2 (j 0) k) * x (ix2 (j 1) k)) + b (ix2 (j 0) 0) := by
  pointwise [k0_pay2]

end Cert.KernelIdeal.Block

end
-- ==== Proof.KernelRun.lean ====
/-
  The run of the kernel over the extended reals: what the body leaves in its staging buffers at each grid point, and the
  whole program's run in those terms.

  The block of `x` at the last point reaches 480 rows past the array, and the rows of the staging buffer past the array's
  end hold words that nobody names. Entry `(p, r)` of an output block reads row `r` of the block of `x` only
  (`Block.pay1_apply`, `Block.pay2_apply`), so those words reach only the output columns that are past the array's end
  too (`pay1_cut`, `pay2_cut`). The write-back leaves these columns out.
-/
module

public import proofs.«01_k».proof.Proof.BlockValue
public import proofs.«01_k».proof.Proof.Gen.KernelIdeal.Frame
public import Idealize.ShloMosaic.Lib.WholeRead

@[expose] public section

noncomputable section

namespace Cert.KernelIdeal.Run

open Cert.KernelIdeal Cert.KernelIdeal.Gen Cert.KernelIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-! ## Loads and stores of whole buffers -/

/-- Two zero offsets. -/
theorem zeros : (![0, 0] : Fin 2 → Nat) = fun _ => 0 := funext fun a => by fin_cases a <;> rfl

/-- A load of a whole buffer reads its contents. -/
theorem load_whole {s : Shape} {b : Memref sig .tc .vmem s .f32} (h : b.IsWhole) {off : Fin s.rank → Nat}
    (hz : off = fun _ => 0) (inb : ∀ a, off a + s.size a ≤ s.size a) (X : s.Idx → Elt Ideal .f32) :
    View.readAt (Elt Ideal) b.view (Rect.unit off s.size inb).toLoadRect (h.unread X) = X :=
  (funext fun x => h.readAt_unread X _ x).trans (View.ld_unit_zero hz inb X)

/-- A store of a whole buffer leaves what was stored. -/
theorem store_whole {s : Shape} {b : Memref sig .tc .vmem s .f32} {off : Fin s.rank → Nat}
    (hz : off = fun _ => 0) (inb : ∀ a, off a + s.size a ≤ s.size a) (f : b.view.ty.Contents (Elt Ideal))
    (X : s.Idx → Elt Ideal .f32) :
    b.view.read (Elt Ideal) (b.view.writes (Elt Ideal) f [⟨Rect.unit off s.size inb, X⟩]) = X := by
  rw [View.read_writes_eq_canon _ _ _ fun y => ⟨_, List.mem_singleton_self _, View.mem_set_unit_zero hz inb y⟩,
    View.canon_unit_zero hz]

/-! ## The body -/

/-- Seven staging buffers held at named contents. -/
abbrev heldAll (c : Dev nD) (b1 : Memref sig .tc .vmem S2048x1024 .f32) (b2 : Memref sig .tc .vmem S81x1024 .f32)
    (b3 : Memref sig .tc .vmem S81x1 .f32) (b4 : Memref sig .tc .vmem S320x1024 .f32)
    (b5 : Memref sig .tc .vmem S320x1 .f32) (b6 : Memref sig .tc .vmem S81x2048 .f32)
    (b7 : Memref sig .tc .vmem S320x2048 .f32)
    (X : Vec Ideal S2048x1024 .f32) (W1 : Vec Ideal S81x1024 .f32) (B1 : Vec Ideal S81x1 .f32)
    (W2 : Vec Ideal S320x1024 .f32) (B2 : Vec Ideal S320x1 .f32) (Y1 : Vec Ideal S81x2048 .f32)
    (Y2 : Vec Ideal S320x2048 .f32) : sProp 𝕄 :=
  iprop(owns (c : Thread nD τ) b1 fullShare X ∗ owns (c : Thread nD τ) b2 fullShare W1
    ∗ owns (c : Thread nD τ) b3 fullShare B1 ∗ owns (c : Thread nD τ) b4 fullShare W2
    ∗ owns (c : Thread nD τ) b5 fullShare B2 ∗ owns (c : Thread nD τ) b6 fullShare Y1
    ∗ owns (c : Thread nD τ) b7 fullShare Y2)

/-- The body reads its five inputs, leaves them as they were, and leaves each head's block in its output buffer. -/
theorem body_runs (c : Dev nD) (i : grid0.Coords)
    (b1 : Memref sig .tc .vmem S2048x1024 .f32) (h1 : b1.IsWhole) (b2 : Memref sig .tc .vmem S81x1024 .f32) (h2 : b2.IsWhole)
    (b3 : Memref sig .tc .vmem S81x1 .f32) (h3 : b3.IsWhole) (b4 : Memref sig .tc .vmem S320x1024 .f32) (h4 : b4.IsWhole)
    (b5 : Memref sig .tc .vmem S320x1 .f32) (h5 : b5.IsWhole) (b6 : Memref sig .tc .vmem S81x2048 .f32) (h6 : b6.IsWhole)
    (b7 : Memref sig .tc .vmem S320x2048 .f32) (h7 : b7.IsWhole)
    (X : Vec Ideal S2048x1024 .f32) (W1 : Vec Ideal S81x1024 .f32) (B1 : Vec Ideal S81x1 .f32)
    (W2 : Vec Ideal S320x1024 .f32) (B2 : Vec Ideal S320x1 .f32) (Y1 : Vec Ideal S81x2048 .f32)
    (Y2 : Vec Ideal S320x2048 .f32) (K : PUnit → sProp 𝕄) :
    iprop(heldAll c b1 b2 b3 b4 b5 b6 b7 X W1 B1 W2 B2 Y1 Y2
        ∗ (heldAll c b1 b2 b3 b4 b5 b6 b7 X W1 B1 W2 B2 (k0_pay1 X W1 B1) (k0_pay2 X W2 B2) -∗ K ⟨⟩))
      ⊢ wp frame (wpE (defs₀ (F := Ideal)) Variants.none c none) Set.univ
          (cc0__fused_heads_t i b1 h1 b2 h2 b3 h3 b4 h4 b5 h5 b6 h6 b7 h7) K := by
  simp only [cc0__fused_heads_t_eq_skeleton]; unfold cc0__fused_heads_t_skel
  unfold heldAll owns
  iintro ⟨⟨⟨%f1, %e1, H1⟩, ⟨%f2, %e2, H2⟩, ⟨%f3, %e3, H3⟩, ⟨%f4, %e4, H4⟩, ⟨%f5, %e5, H5⟩,
    ⟨%f6, %e6, H6⟩, ⟨%f7, %e7, H7⟩⟩, Hk⟩
  obtain rfl := h1.eq_unread e1; obtain rfl := h2.eq_unread e2; obtain rfl := h3.eq_unread e3
  obtain rfl := h4.eq_unread e4; obtain rfl := h5.eq_unread e5
  sl_exec
  sl_step
  iapply Hk
  rw [load_whole h1 zeros, load_whole h2 zeros, load_whole h3 zeros, load_whole h4 zeros, load_whole h5 zeros]
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact store_whole zeros _ _ _
  · iexists _; isplitr; swap; · iexact H7
    ipureintro; exact store_whole zeros _ _ _

/-! ## The rows past the array's end -/

/-- The filler named for the rows past the array's end. No statement about the arrays depends on it. -/
abbrev filler : S2048x1024.Idx → Elt Ideal .f32 := fun _ => 0

/-- The staging buffer of `x` after the fetch at point `t`: the rows of the block that are inside the array, and `d`
past the array's end. -/
abbrev xbuf (c : Dev nD) (t : Fin cfg0.N) (d : S2048x1024.Idx → Elt Ideal .f32) : Vec Ideal S2048x1024 .f32 :=
  win0_0.fill (grid0.coords t) d (iblk m c 0 t)

/-- The fetch at point `t` moves whole rows: entry `(r, k)` of the block is moved as soon as row `r` is. -/
theorem row_moved (t : Fin cfg0.N) {r : Fin 2048} (hr : r.val < win0_0.xsize (grid0.coords t) 0) (k : Fin 1024) :
    win0_0.moved (grid0.coords t) (ix2 r k) = true := by
  refine (win0_0.moved_iff _ _).mpr fun a => ?_
  fin_cases a
  · exact hr
  · exact k.isLt

/-- A row inside the array does not depend on what lies past the array's end. -/
theorem xbuf_row (c : Dev nD) (t : Fin cfg0.N) (d d' : S2048x1024.Idx → Elt Ideal .f32) {r : Fin 2048}
    (hr : r.val < win0_0.xsize (grid0.coords t) 0) (k : Fin 1024) : xbuf m c t d (ix2 r k) = xbuf m c t d' (ix2 r k) := by
  unfold xbuf Pipeline.Window.fill
  rw [dif_pos (row_moved t hr k), dif_pos (row_moved t hr k)]

/-- The part of the staging buffer that the fetch fills does not depend on what lies past the array's end. -/
theorem xbuf_cut (c : Dev nD) (t : Fin cfg0.N) (d d' : S2048x1024.Idx → Elt Ideal .f32) :
    win0_0.cut (grid0.coords t) (xbuf m c t d) = win0_0.cut (grid0.coords t) (xbuf m c t d') :=
  (win0_0.cut_fill _ _ _).trans (win0_0.cut_fill _ _ _).symm

/-- The part of the first output block that is written back does not depend on what lies past the array's end. -/
theorem pay1_cut (c : Dev nD) (t : Fin cfg0.N) (d d' : S2048x1024.Idx → Elt Ideal .f32) (w : Vec Ideal S81x1024 .f32)
    (b : Vec Ideal S81x1 .f32) :
    win0_5.cut (grid0.coords t) (k0_pay1 (xbuf m c t d) w b) = win0_5.cut (grid0.coords t) (k0_pay1 (xbuf m c t d') w b) := by
  funext j
  refine (pay1_apply _ _ _ _).trans (Eq.trans ?_ (pay1_apply _ _ _ _).symm)
  exact congrArg (· + _) (Finset.sum_congr rfl fun k _ => congrArg (_ * ·) (xbuf_row m c t d d' (j 1).isLt k))

/-- The same for the second output block. -/
theorem pay2_cut (c : Dev nD) (t : Fin cfg0.N) (d d' : S2048x1024.Idx → Elt Ideal .f32) (w : Vec Ideal S320x1024 .f32)
    (b : Vec Ideal S320x1 .f32) :
    win0_6.cut (grid0.coords t) (k0_pay2 (xbuf m c t d) w b) = win0_6.cut (grid0.coords t) (k0_pay2 (xbuf m c t d') w b) := by
  funext j
  refine (pay2_apply _ _ _ _).trans (Eq.trans ?_ (pay2_apply _ _ _ _).symm)
  exact congrArg (· + _) (Finset.sum_congr rfl fun k _ => congrArg (_ * ·) (xbuf_row m c t d d' (j 1).isLt k))

/-! ## The proof data and the body's obligation -/

/-- What each staging buffer holds after the body at point `t`: the five inputs at their blocks, the two outputs at the
heads' blocks. -/
def dats (_ : Fin 1) (c : Dev nD) : Dat τ (Elt Ideal) Unit ℕ (UR sig nD τ) ℕ cfg0 c where
  A w := V m c (Pipeline.arrRef spec0 w)
  after w t := match w with
    | ⟨0, _⟩ => xbuf m c t filler
    | ⟨1, _⟩ => iblk m c 1 t
    | ⟨2, _⟩ => iblk m c 2 t
    | ⟨3, _⟩ => iblk m c 3 t
    | ⟨4, _⟩ => iblk m c 4 t
    | ⟨5, _⟩ => k0_pay1 (xbuf m c t filler) (iblk m c 1 t) (iblk m c 2 t)
    | ⟨6, _⟩ => k0_pay2 (xbuf m c t filler) (iblk m c 3 t) (iblk m c 4 t)
  Φ _ := Pipeline.ΦA spec0 c
  q _ := fullShare
  owed _ := 0

/-- Before the body at any point, the staging buffer of `x` holds the block just fetched. -/
theorem before_x (c : Dev nD) (t : Fin cfg0.N) (d : S2048x1024.Idx → Elt Ideal .f32) :
    (dats m 0 c).before 0 t d = xbuf m c t d := by
  unfold Dat.before
  rw [if_pos (fetch0_0 t)]
  rfl

/-- The body that the pipeline calls at point `t` is `bodyAt0 t`. -/
theorem called_eq (t : Fin cfg0.N) :
    defs₀ (F := Ideal) .tc cfg0.body (cfg0.bodyArgs t (cfg0.slots t)) = bodyAt0 t := by
  unfold defs₀; rw [Defs.onTc_tc]

/-- A buffer that agrees with the proof data on the part inside the array is a buffer as the obligation describes it. -/
theorem handed_back (c : Dev nD) (t : Fin cfg0.N) (w : Fin cfg0.W) (Y : (cfg0.win w).block.Idx → Elt Ideal (cfg0.win w).elt)
    (h : (cfg0.win w).cut (grid0.coords t) Y = (cfg0.win w).cut (grid0.coords t) ((dats m 0 c).after w t)) :
    owns (c : Thread nD τ) ((cfg0.win w).stage (cfg0.slots t w)) fullShare Y
      ⊢ (iprop(∃ d, owns (c : Thread nD τ) ((cfg0.win w).stage (cfg0.slots t w)) fullShare
          ((cfg0.win w).fill (cfg0.grid.coords t) d ((cfg0.win w).cut (cfg0.grid.coords t) ((dats m 0 c).after w t)))) :
        sProp 𝕄) := by
  iintro H
  iexists Y
  rw [show (cfg0.win w).fill (cfg0.grid.coords t) Y ((cfg0.win w).cut (cfg0.grid.coords t) ((dats m 0 c).after w t)) = Y from
    (cfg0.win w).fill_congr_cut _ h]
  iexact H

/-- The body meets its obligation at every grid point. -/
theorem body_obligation (c : Dev nD) :
    BodyObligationLoose (dats m 0 c) (defs₀ (F := Ideal)) Variants.none () Set.univ := fun t => by
  rw [bigSep_W0, bigSep_W0]
  simp only
  rw [called_eq t, show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_x m c t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4]
  unfold bodyAt0
  iapply (body_runs c (grid0.coords t) _ _ _ _ _ _ _ _ _ _ _ _ _ _ (xbuf m c t d0) (iblk m c 1 t) (iblk m c 2 t)
    (iblk m c 3 t) (iblk m c 4 t) _ _ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]
  · iapply (handed_back m c t 0 (xbuf m c t d0) (xbuf_cut m c t d0 filler)); iexact H0
  isplitl [H1]; · iexact H1
  isplitl [H2]; · iexact H2
  isplitl [H3]; · iexact H3
  isplitl [H4]; · iexact H4
  isplitl [H5]
  · iapply (handed_back m c t 5 (k0_pay1 (xbuf m c t d0) (iblk m c 1 t) (iblk m c 2 t)) (pay1_cut m c t d0 filler _ _))
    iexact H5
  · iapply (handed_back m c t 6 (k0_pay2 (xbuf m c t d0) (iblk m c 3 t) (iblk m c 4 t)) (pay2_cut m c t d0 filler _ _))
    iexact H6

/-! ## The run -/

-- the launch theorem's implicit arguments are found by unifying its conclusion with this one
set_option backward.isDefEq.respectTransparency.types false in
/-- The program terminates; every array the kernel does not stage holds what the lines after the kernel leave, every staged
array what the write-backs leave, and every counter is at zero. -/
theorem run : θ_run (defs (F := Ideal)) (onTc main) ⟨m, fun _ => 0, ρ⟩
    (fun r => Pipeline.FramePost cfgs (dats m) (0 : Fin 1)
      (Pipeline.afterTail₀ cfgs (dats m) (0 : Fin 1) (V0 m) [hostOps1]) r ∧ r.2.sem = fun _ => 0) := by
  refine Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl) (Q' := _) (hQ' := fun _ h => h)

end Cert.KernelIdeal.Run

end
-- ==== Proof.KernelValue.lean ====
/-
  What the kernel's two arrays hold at the end: each is the transpose of a dense layer of the arguments, and the lines
  after the kernel transpose it back.

  Point `t` of the grid writes columns `2048 t, …` of each array. The ten blocks cover the array, so the array is known
  as soon as each block is known to hold the transposed layer on its own columns.
-/
module

public import proofs.«01_k».proof.Proof.Dense
public import proofs.«01_k».proof.Proof.KernelRun
public import Idealize.ShloMosaic.Lib.Claim

@[expose] public section

noncomputable section

namespace Cert.KernelIdeal.Heads

open Cert.KernelIdeal Cert.KernelIdeal.Gen Cert.KernelIdeal.Block Cert.KernelIdeal.Run
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-! ## The arguments on device `c` -/

/-- The rows. -/
abbrev rows (c : Dev nD) : FVec Ideal S20000x1024 .f32 := m ((c : Thread nD τ).loc main_arg0)
/-- The first head's weights. -/
abbrev weights1 (c : Dev nD) : FVec Ideal S1024x81 .f32 := m ((c : Thread nD τ).loc main_arg1)
/-- The first head's bias. -/
abbrev bias1 (c : Dev nD) : FVec Ideal S81 .f32 := m ((c : Thread nD τ).loc main_arg2)
/-- The second head's weights. -/
abbrev weights2 (c : Dev nD) : FVec Ideal S1024x320 .f32 := m ((c : Thread nD τ).loc main_arg3)
/-- The second head's bias. -/
abbrev bias2 (c : Dev nD) : FVec Ideal S320 .f32 := m ((c : Thread nD τ).loc main_arg4)

/-! ## The arrays the kernel is given -/

/-- The kernel's first weight array is the first head's weights transposed. -/
theorem given_w1 (c : Dev nD) :
    V m c main_v0 = transpose S81x1024 [1, 0] (weights1 m c) transposes_S1024x81_S81x1024_1_0 := by
  change StableHlo.after hostOps0 (fun b => m (c, b)) (Proc.devRef .tc main_v0) = _
  after_results

/-- The kernel's first bias array is the first head's bias as a column. -/
theorem given_b1 (c : Dev nD) : V m c main_v2 = shapeCast S81x1 (bias1 m c) shapeCasts_S81_S81x1 := by
  change StableHlo.after hostOps0 (fun b => m (c, b)) (Proc.devRef .tc main_v2) = _
  after_results
  rfl

/-- The kernel's second weight array is the second head's weights transposed. -/
theorem given_w2 (c : Dev nD) :
    V m c main_v1 = transpose S320x1024 [1, 0] (weights2 m c) transposes_S1024x320_S320x1024_1_0 := by
  change StableHlo.after hostOps0 (fun b => m (c, b)) (Proc.devRef .tc main_v1) = _
  after_results

/-- The kernel's second bias array is the second head's bias as a column. -/
theorem given_b2 (c : Dev nD) : V m c main_v3 = shapeCast S320x1 (bias2 m c) shapeCasts_S320_S320x1 := by
  change StableHlo.after hostOps0 (fun b => m (c, b)) (Proc.devRef .tc main_v3) = _
  after_results
  rfl

/-! ## What the body reads at point `t`, in terms of the arguments -/

/-- Row `r` of the block of `x` at point `t` is row `2048 t + r` of the argument, when that row is inside the array. -/
theorem read_x (c : Dev nD) (t : Fin cfg0.N) {r : Fin 2048} (hr : r.val < win0_0.xsize (grid0.coords t) 0) (k : Fin 1024)
    (i : Fin 20000) (hi : i.val = win0_0.index t 0 * 2048 + r.val) :
    xbuf m c t filler (ix2 r k) = rows m c (ix2 i k) := by
  unfold xbuf Pipeline.Window.fill
  rw [dif_pos (row_moved t hr k)]
  refine (congrFun (V_main_arg0 m c) _).trans (congrArg (rows m c) ?_)
  funext a
  fin_cases a
  · exact Fin.ext ((congrArg (_ + ·) (Nat.one_mul _)).trans hi.symm)
  · exact Fin.ext ((congrArg (_ + ·) (Nat.one_mul _)).trans (Nat.zero_add _))

/-- A block of a whole array's sizes at zero offsets is the array. -/
theorem whole_block {s : Shape} {off : Fin s.rank → Nat} (h : ∀ a, off a = 0) (inb : ∀ a, off a + s.size a ≤ s.size a)
    (x : s.Idx) : (Rect.unit off s.size inb).emb x = x :=
  funext fun a => Fin.ext ((congrArg₂ (· + ·) (h a) (Nat.one_mul _)).trans (Nat.zero_add _))

/-- The first head's weights, as the body reads them at any point. -/
theorem read_w1 (c : Dev nD) (t : Fin cfg0.N) (p : Fin 81) (k : Fin 1024) :
    (iblk m c 1 t : FVec Ideal S81x1024 .f32) (ix2 p k) = weights1 m c (ix2 k p) := by
  refine (congrArg (V m c main_v0) (whole_block (s := S81x1024) (fun a => by fin_cases a <;> rfl) _ _)).trans ?_
  rw [given_w1]; pointwise

/-- The first head's bias, as the body reads it at any point. -/
theorem read_b1 (c : Dev nD) (t : Fin cfg0.N) (p : Fin 81) :
    (iblk m c 2 t : FVec Ideal S81x1 .f32) (ix2 p 0) = bias1 m c (ix1 p) := by
  refine (congrArg (V m c main_v2) (whole_block (s := S81x1) (fun a => by fin_cases a <;> rfl) _ _)).trans ?_
  rw [given_b1]; pointwise

/-- The second head's weights, as the body reads them at any point. -/
theorem read_w2 (c : Dev nD) (t : Fin cfg0.N) (p : Fin 320) (k : Fin 1024) :
    (iblk m c 3 t : FVec Ideal S320x1024 .f32) (ix2 p k) = weights2 m c (ix2 k p) := by
  refine (congrArg (V m c main_v1) (whole_block (s := S320x1024) (fun a => by fin_cases a <;> rfl) _ _)).trans ?_
  rw [given_w2]; pointwise

/-- The second head's bias, as the body reads it at any point. -/
theorem read_b2 (c : Dev nD) (t : Fin cfg0.N) (p : Fin 320) :
    (iblk m c 4 t : FVec Ideal S320x1 .f32) (ix2 p 0) = bias2 m c (ix1 p) := by
  refine (congrArg (V m c main_v3) (whole_block (s := S320x1) (fun a => by fin_cases a <;> rfl) _ _)).trans ?_
  rw [given_b2]; pointwise

/-! ## The two arrays -/

/-- A dense layer with its two axes exchanged. -/
abbrev exchanged {n : Nat} (x : FVec Ideal S20000x1024 .f32) (w : FVec Ideal ⟨2, ![1024, n]⟩ .f32)
    (b : FVec Ideal ⟨1, ![n]⟩ .f32) : FVec Ideal ⟨2, ![n, 20000]⟩ .f32 :=
  fun i => Dense.layer x w b (ix2 (i 1) (i 0))

/-- Every column of an array lies in the block of some point: column `i` in that of point `i / 2048`. -/
theorem column_covered (i : Fin 20000) : ∃ t : Fin cfg0.N, win0_0.index t 0 * 2048 ≤ i.val
    ∧ i.val < win0_0.index t 0 * 2048 + win0_0.xsize (grid0.coords t) 0 := by
  have key : ∀ t : Fin cfg0.N, win0_0.index t 0 = t.val
      ∧ win0_0.xsize (grid0.coords t) 0 = min 2048 (20000 - t.val * 2048) := by decide
  have hN : cfg0.N = 10 := N_0
  refine ⟨⟨i.val / 2048, by omega⟩, ?_⟩
  rw [(key _).1, (key _).2]
  simp only
  omega

/-- The sum an output block's entry is, its operands read in terms of the arguments, is an entry of the dense layer. -/
theorem layer_entry {n : Nat} {x : FVec Ideal S20000x1024 .f32} {w : FVec Ideal ⟨2, ![1024, n]⟩ .f32}
    {b : FVec Ideal ⟨1, ![n]⟩ .f32} {W X : Fin 1024 → Ideal .f32} {B : Ideal .f32} {i : Fin 20000} {p : Fin n}
    (hW : ∀ k, W k = w (ix2 k p)) (hX : ∀ k, X k = x (ix2 i k)) (hB : B = b (ix1 p)) :
    (∑ k : Fin 1024, W k * X k) + B = Dense.layer x w b (ix2 i p) := by
  rw [hB]
  exact congrArg (· + _) (Finset.sum_congr rfl fun k _ => by rw [hW, hX]; exact mul_comm _ _)

/-- The block of the first array written at point `t` holds the exchanged layer on its own columns. -/
theorem written1 (c : Dev nD) (t : Fin cfg0.N) : (dats m 0 c).flushed 5 t
    = (win0_5.blk t).view.read (Elt Ideal) (exchanged (rows m c) (weights1 m c) (bias1 m c)) := by
  funext j
  have hrow : ((win0_5.rect t).emb j 0).val = (j 0).val :=
    (congrArg₂ (· + ·) (Nat.zero_mul _) (Nat.one_mul _)).trans (Nat.zero_add _)
  refine (pay1_apply _ _ _ _).trans ((layer_entry (fun k => read_w1 m c t _ k)
    (fun k => read_x m c t (j 1).isLt k ((win0_5.rect t).emb j 1) (congrArg (_ + ·) (Nat.one_mul _)))
    (read_b1 m c t _)).trans (congrArg (Dense.layer _ _ _) (congrArg (ix2 _) (Fin.ext hrow.symm))))

/-- The first array ends holding the first head's layer with its axes exchanged. -/
theorem array1 (c : Dev nD) :
    (dats m 0 c).arrAt 5 cfg0.N = exchanged (rows m c) (weights1 m c) (bias1 m c) := by
  refine (dats m 0 c).arrAt_eq_of_cover 5 _ (fun t _ => written1 m c t) fun i => ?_
  obtain ⟨t, h1, h2⟩ := column_covered (i 1)
  refine ⟨t, flush0_5 t, ?_⟩
  rw [View.set_slice_whole, Rect.mem_set_unit]
  intro a
  fin_cases a
  · exact ⟨(Nat.zero_mul _).trans_le (Nat.zero_le _),
      (i 0).isLt.trans_eq ((Nat.zero_add _).symm.trans (congrArg (· + _) (Nat.zero_mul _).symm))⟩
  · exact ⟨h1, h2⟩

/-- The block of the second array written at point `t` holds the exchanged layer on its own columns. -/
theorem written2 (c : Dev nD) (t : Fin cfg0.N) : (dats m 0 c).flushed 6 t
    = (win0_6.blk t).view.read (Elt Ideal) (exchanged (rows m c) (weights2 m c) (bias2 m c)) := by
  funext j
  have hrow : ((win0_6.rect t).emb j 0).val = (j 0).val :=
    (congrArg₂ (· + ·) (Nat.zero_mul _) (Nat.one_mul _)).trans (Nat.zero_add _)
  refine (pay2_apply _ _ _ _).trans ((layer_entry (fun k => read_w2 m c t _ k)
    (fun k => read_x m c t (j 1).isLt k ((win0_6.rect t).emb j 1) (congrArg (_ + ·) (Nat.one_mul _)))
    (read_b2 m c t _)).trans (congrArg (Dense.layer _ _ _) (congrArg (ix2 _) (Fin.ext hrow.symm))))

/-- The second array ends holding the second head's layer with its axes exchanged. -/
theorem array2 (c : Dev nD) :
    (dats m 0 c).arrAt 6 cfg0.N = exchanged (rows m c) (weights2 m c) (bias2 m c) := by
  refine (dats m 0 c).arrAt_eq_of_cover 6 _ (fun t _ => written2 m c t) fun i => ?_
  obtain ⟨t, h1, h2⟩ := column_covered (i 1)
  refine ⟨t, flush0_6 t, ?_⟩
  rw [View.set_slice_whole, Rect.mem_set_unit]
  intro a
  fin_cases a
  · exact ⟨(Nat.zero_mul _).trans_le (Nat.zero_le _),
      (i 0).isLt.trans_eq ((Nat.zero_add _).symm.trans (congrArg (· + _) (Nat.zero_mul _).symm))⟩
  · exact ⟨h1, h2⟩

/-! ## The results -/

/-- The first result is the first head's layer. -/
theorem result1 (c : Dev nD) : Pipeline.afterTail₀ cfgs (dats m) (0 : Fin 1) (V0 m) [hostOps1] c main_v5
    = Dense.layer (rows m c) (weights1 m c) (bias1 m c) := by
  change StableHlo.after hostOps1 _ (Proc.devRef .tc main_v5) = _
  after_results
  refine (congrArg (transpose S20000x81 [1, 0] · transposes_S81x20000_S20000x81_1_0)
    ((Pipeline.withArrays_arr spec0 (by decide) c (V0 m c) _ 5).trans (array1 m c))).trans ?_
  funext j
  pointwise
  rfl

/-- The second result is the second head's layer. -/
theorem result2 (c : Dev nD) : Pipeline.afterTail₀ cfgs (dats m) (0 : Fin 1) (V0 m) [hostOps1] c main_v6
    = Dense.layer (rows m c) (weights2 m c) (bias2 m c) := by
  change StableHlo.after hostOps1 _ (Proc.devRef .tc main_v6) = _
  after_results
  refine (congrArg (transpose S20000x320 [1, 0] · transposes_S320x20000_S20000x320_1_0)
    ((Pipeline.withArrays_arr spec0 (by decide) c (V0 m c) _ 6).trans (array2 m c))).trans ?_
  funext j
  pointwise
  rfl

/-- The program terminates with its two results at the two dense layers, its arguments unchanged and every counter at
zero. -/
theorem run : θ_run (defs (F := Ideal)) (onTc (τ := τ) (main (F := Ideal))) ⟨m, fun _ => 0, ρ⟩ fun r =>
    (∀ c : Dev nD,
      r.2.mem ((c.tc : Thread nD τ).loc main_v5) = Dense.layer (rows m c) (weights1 m c) (bias1 m c)
      ∧ r.2.mem ((c.tc : Thread nD τ).loc main_v6) = Dense.layer (rows m c) (weights2 m c) (bias2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 := by
  refine (θ_run defs _ _).mono (fun r h => ⟨fun c => ?_, h.2⟩) (Run.run m ρ)
  have rest : ∀ b, b ∈ Pipeline.restRefs sig spec0 → r.2.mem ((c.tc : Thread nD τ).loc b)
      = Pipeline.afterTail₀ cfgs (dats m) (0 : Fin 1) (V0 m) [hostOps1] c b := (h.1 c).2
  refine ⟨(rest _ (Pipeline.mem_restRefs_of _ (by decide) (by decide))).trans (result1 m c),
    (rest _ (Pipeline.mem_restRefs_of _ (by decide) (by decide))).trans (result2 m c),
    ((h.1 c).1 0).trans (((dats m 0 c).arrAt_in 0 rfl _).trans (V_main_arg0 m c)), ?_, ?_, ?_, ?_⟩
  all_goals refine (rest _ (Pipeline.mem_restRefs_of _ (by decide) (by decide))).trans ?_
  · exact W_main_arg1 m (dats m) c
  · exact W_main_arg2 m (dats m) c
  · exact W_main_arg3 m (dats m) c
  · exact W_main_arg4 m (dats m) c

end Cert.KernelIdeal.Heads

end
-- ==== Proof.ReferenceValue.lean ====
/-
  The reference: its two results are the two dense layers, its arguments end as they began, and it leaves every counter at
  zero.
-/
module

public import proofs.«01_k».proof.Defs
public import proofs.«01_k».proof.Proof.Dense
public import proofs.«01_k».proof.Proof.Gen.ReferenceIdeal.Run

@[expose] public section

noncomputable section

namespace Cert.ReferenceIdeal.Heads

open Cert.ReferenceIdeal Cert.ReferenceIdeal.Gen
open Idealize.ShloMosaic Idealize.ShloMosaic.TcCoe Idealize.SL.Sem

/-- The reference's product with its bias added, at 81 output features, is the dense layer. -/
theorem first_eq (x : FVec Ideal S20000x1024 .f32) (w : FVec Ideal S1024x81 .f32) (b : FVec Ideal S81 .f32) :
    addf (Host.dotGeneral dot_S20000x1024_S1024x81_S20000x81_1_0_0_1_n_n none x w)
      (broadcastInDim S20000x81 ![0, 1] bcast_S1x81_S20000x81_0_1 (broadcastInDim S1x81 ![1] bcast_S81_S1x81_1 b))
      = Dense.layer x w b := by
  funext j
  unfold Dense.layer
  pointwise

/-- The same at 320 output features. -/
theorem second_eq (x : FVec Ideal S20000x1024 .f32) (w : FVec Ideal S1024x320 .f32) (b : FVec Ideal S320 .f32) :
    addf (Host.dotGeneral dot_S20000x1024_S1024x320_S20000x320_1_0_0_1_n_n none x w)
      (broadcastInDim S20000x320 ![0, 1] bcast_S1x320_S20000x320_0_1 (broadcastInDim S1x320 ![1] bcast_S320_S1x320_1 b))
      = Dense.layer x w b := by
  funext j
  unfold Dense.layer
  pointwise

/-- The reference terminates with its two results at the two dense layers and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = Dense.layer (m ((c.tc : Thread nD τ).loc main_arg0))
          (m ((c.tc : Thread nD τ).loc main_arg1)) (m ((c.tc : Thread nD τ).loc main_arg2))
      ∧ r.2.mem ((c.tc : Thread nD τ).loc main_v7) = Dense.layer (m ((c.tc : Thread nD τ).loc main_arg0))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (first_eq _ _ _), (h c).2.1.trans (second_eq _ _ _), (h c).2.2⟩)
    (Value.run m ρ)

/-- The reference terminates with its arguments unchanged; it declares no counter, so none is left raised. -/
theorem frame : Cert.quiescent_ReferenceIdeal := fun m ρ _ =>
  (θ_run defs _ _).mono (fun r h => ⟨fun c => (h c).2.2, sem_eq_zero_of_no_sems (by decide) r.2⟩) (run m ρ)

end Cert.ReferenceIdeal.Heads

end
-- ==== Proof.lean ====
/-
  The certificate of a kernel that computes two dense layers `x · w + b` on the same 20000 rows: 81 class scores and 320
  box offsets per row.

  * `Proof/Dense.lean`: the layer, for any number of output features.
  * `Proof/ReferenceValue.lean`: the reference computes the two layers.
  * `Proof/BlockValue.lean`: what one block of the kernel computes.
  * `Proof/KernelRun.lean`: the kernel's run over the extended reals, block by block.
  * `Proof/KernelValue.lean`: its two arrays, and its two results, are the two layers.
  * `Proof/KernelFrame.lean`: the kernel's run at machine words, without its values.

  This module puts the five claims together.
-/
module

public import proofs.«01_k».proof.Defs
public import proofs.«01_k».proof.Proof.KernelFrame
public import proofs.«01_k».proof.Proof.KernelValue
public import proofs.«01_k».proof.Proof.ReferenceValue

@[expose] public section

noncomputable section

namespace Cert.Proof

open Idealize.ShloMosaic Idealize.SL.Sem

/-- Over the extended reals the kernel terminates with its arguments unchanged and every counter at zero. -/
theorem ideal_frame : Cert.quiescent_KernelIdeal := fun m ρ _ =>
  (θ_run _ _ _).mono (fun _ h => ⟨fun c => (h.1 c).2.2, h.2⟩) (Cert.KernelIdeal.Heads.run m ρ)

/-- From the same arguments, the kernel and the reference end with the same two results over the extended reals: the two
dense layers. -/
theorem same_results : Cert.algebraic_KernelIdeal_ReferenceIdeal := by
  intro m ρ m' ρ' _ hargs
  refine ⟨_, _, (θ_run _ _ _).mono (fun _ h => h.1) (Cert.KernelIdeal.Heads.run m ρ),
    (θ_run _ _ _).mono (fun _ h c => ?_) (Cert.ReferenceIdeal.Heads.run m' ρ')⟩
  obtain ⟨h0, h1, h2, h3, h4⟩ := hargs c
  obtain ⟨r1, r2, kept⟩ := h c
  rw [h0, h1, h2] at r1
  rw [h0, h3, h4] at r2
  exact ⟨r1, r2, kept⟩

/-- The five claims. -/
theorem claim : Cert.Claim :=
  ⟨Cert.Kernel.Gen.facts, Cert.KernelIdeal.Gen.facts, Cert.ReferenceIdeal.Gen.facts,
    Cert.Kernel.Frame.frame, ideal_frame, Cert.ReferenceIdeal.Heads.frame, trivial, same_results⟩

end Cert.Proof

end
